-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S512x64 : Shape := ⟨2, ![512, 64]⟩
abbrev S_ : Shape := ⟨0, ![]⟩

class Facts : Prop where
  bcast_S_S512x64 : S_.BroadcastsInDim S512x64 (![] : Fin 0 → Fin S512x64.rank)
  reducesTo_S512x64_S_d0_1 : S512x64.ReducesTo [0, 1] S_
  h_S_ : 0 < S_.numel

variable [Facts]

def fn {F : FTy → Type} [FloatOps F] (main_arg0 : FVec F S512x64 .f32) (main_arg1 : FVec F S512x64 .f32) : IVec S_ 1 :=
  let main_v0 : FVec F S512x64 .f32 := Host.absf main_arg0
  let main_cst : FVec F S_ .f32 := constant S_ .f32 0x7F800000#32
  let main_v1 : FVec F S512x64 .f32 := broadcastInDim S512x64 ![] bcast_S_S512x64 main_cst
  let main_v2 : IVec S512x64 1 := cmpf .olt main_v0 main_v1
  let main_c : IVec S_ 1 := constantI S_ 1 1#1
  let main_v3 : IVec S_ 1 := (fun x v => Host.reduce IntOp.andi x v reducesTo_S512x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  main_v8
-- ==== Kernel.lean ====
abbrev S512x64 : Shape := ⟨2, ![512, 64]⟩
abbrev S1x1 : Shape := ⟨2, ![1, 1]⟩
abbrev S512 : Shape := ⟨1, ![512]⟩
abbrev S64 : Shape := ⟨1, ![64]⟩
abbrev S1x512 : Shape := ⟨2, ![1, 512]⟩
abbrev S1 : Shape := ⟨1, ![1]⟩
abbrev S1x64 : Shape := ⟨2, ![1, 64]⟩
abbrev S512x512 : Shape := ⟨2, ![512, 512]⟩
abbrev S512x1 : Shape := ⟨2, ![512, 1]⟩
abbrev S1x512x512 : Shape := ⟨3, ![1, 512, 512]⟩
abbrev S1x1x1 : Shape := ⟨3, ![1, 1, 1]⟩
abbrev S_ : Shape := ⟨0, ![]⟩

abbrev nBuf : Space → Nat
  | .hbm => 4
  | .vmem => 3
  | .smem => 0
  | _ => 0

abbrev bufTy : (tb : Table) → Fin (tcTables nBuf tb) → BufTy
  | .hbm, ⟨0, _⟩ => ⟨S512x64, .f32⟩
  | .hbm, ⟨1, _⟩ => ⟨S512x64, .f32⟩
  | .hbm, ⟨2, _⟩ => ⟨S1x1, .f32⟩
  | .hbm, ⟨3, _⟩ => ⟨S_, .f32⟩
  | .local _ .vmem, ⟨0, _⟩ => ⟨S512x64, .f32⟩
  | .local _ .vmem, ⟨1, _⟩ => ⟨S512x64, .f32⟩
  | .local _ .vmem, ⟨2, _⟩ => ⟨S1x1, .f32⟩
  | _, _ => ⟨S512x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x64 : Shape := ⟨2, ![512, 64]⟩
abbrev S1024x64 : Shape := ⟨2, ![1024, 64]⟩
abbrev S1024x1024 : Shape := ⟨2, ![1024, 1024]⟩
abbrev S_ : Shape := ⟨0, ![]⟩
abbrev S1024x1x64 : Shape := ⟨3, ![1024, 1, 64]⟩
abbrev S1x1024x64 : Shape := ⟨3, ![1, 1024, 64]⟩
abbrev S1024x1024x64 : Shape := ⟨3, ![1024, 1024, 64]⟩

abbrev nBuf : Space → Nat
  | .hbm => 38
  | .vmem => 0
  | .smem => 0
  | _ => 0

abbrev bufTy : (tb : Table) → Fin (tcTables nBuf tb) → BufTy
  | .hbm, ⟨0, _⟩ => ⟨S512x64, .f32⟩
  | .hbm, ⟨1, _⟩ => ⟨S512x64, .f32⟩
  | .hbm, ⟨2, _⟩ => ⟨S1024x64, .f32⟩
  | .hbm, ⟨3, _⟩ => ⟨S1024x1024, .i32⟩
  | .hbm, ⟨4, _⟩ => ⟨S1024x1024, .i32⟩
  | .hbm, ⟨5, _⟩ => ⟨S_, .i32⟩
  | .hbm, ⟨6, _⟩ => ⟨S1024x1024, .i32⟩
  | .hbm, ⟨7, _⟩ => ⟨S1024x1024, .i1⟩
  | .hbm, ⟨8, _⟩ => ⟨S_, .i32⟩
  | .hbm, ⟨9, _⟩ => ⟨S1024x1024, .i32⟩
  | .hbm, ⟨10, _⟩ => ⟨S1024x1024, .i1⟩
  | .hbm, ⟨11, _⟩ => ⟨S1024x1024, .i1⟩
  | .hbm, ⟨12, _⟩ => ⟨S1024x1x64, .f32⟩
  | .hbm, ⟨13, _⟩ => ⟨S1x1024x64, .f32⟩
  | .hbm, ⟨14, _⟩ => ⟨S1024x1024x64, .f32⟩
  | .hbm, ⟨15, _⟩ => ⟨S1024x1024x64, .f32⟩
  | .hbm, ⟨16, _⟩ => ⟨S1024x1024x64, .f32⟩
  | .hbm, ⟨17, _⟩ => ⟨S1024x1024x64, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x1024, .i1⟩
  | .hbm, ⟨29, _⟩ => ⟨S1024x1024, .f32⟩
  | .hbm, ⟨30, _⟩ => ⟨S_, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_call0_cst : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_call2_v0 : Ref sig .tc := ⟨.hbm, 31, rfl⟩
abbrev main_call2_v1 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Proof.Pairs.lean ====
/- Real arithmetic behind the loss: what a sum over the pairs of rows comes to, and the three parts into which the pairs
   of a stacked array fall. Nothing here mentions a program. -/
module

public import Mathlib.Data.EReal.Inv
public import Mathlib.Analysis.SpecialFunctions.Pow.Real
public import Mathlib.Algebra.BigOperators.Fin
public import Mathlib.Tactic.Linarith

@[expose] public section

noncomputable section

namespace Cert.Pairs

/-- Casting a finite sum of real numbers to the extended reals gives the sum of the casts. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

/-- The squared distance of two vectors. -/
def dist2 {d : ℕ} (u v : Fin d → ℝ) : ℝ := ∑ k, (u k - v k) ^ 2

/-- A squared distance is not negative. -/
theorem dist2_nonneg {d : ℕ} (u v : Fin d → ℝ) : 0 ≤ dist2 u v :=
  Finset.sum_nonneg fun _ _ => sq_nonneg _

/-- The squared distance from the two squared norms and the inner product. -/
theorem dist2_eq {d : ℕ} (u v : Fin d → ℝ) :
    dist2 u v = ∑ k, u k * u k + ∑ k, v k * v k - 2 * ∑ k, u k * v k := by
  simp only [dist2, Finset.mul_sum, ← Finset.sum_add_distrib, ← Finset.sum_sub_distrib]
  exact Finset.sum_congr rfl fun k _ => by ring

/-- The squared distance is symmetric. -/
theorem dist2_comm {d : ℕ} (u v : Fin d → ℝ) : dist2 u v = dist2 v u :=
  Finset.sum_congr rfl fun k _ => by ring

/-- A vector is at distance zero from itself. -/
theorem dist2_self {d : ℕ} (u : Fin d → ℝ) : dist2 u u = 0 := by simp [dist2]

/-- The hinge of a pair with unequal labels: the square of what the distance falls short of the margin 1. -/
def hinge {d : ℕ} (u v : Fin d → ℝ) : ℝ := max (1 - √(dist2 u v)) 0 ^ 2

/-- A symmetric table with a zero diagonal sums to twice its upper triangle. -/
theorem two_mul_upper {n : ℕ} (f : Fin n → Fin n → ℝ) (hs : ∀ p q, f p q = f q p) (h0 : ∀ p, f p p = 0) :
    2 * ∑ p, ∑ q, (if p < q then f p q else 0) = ∑ p, ∑ q, f p q := by
  have hflip : ∑ p, ∑ q, (if p < q then f p q else 0) = ∑ p, ∑ q, (if q < p then f p q else 0) := by
    rw [Finset.sum_comm]
    refine Finset.sum_congr rfl fun q _ => Finset.sum_congr rfl fun p _ => ?_
    rw [hs p q]
  rw [two_mul]
  conv_lhs => rhs; rw [hflip]
  simp only [← Finset.sum_add_distrib]
  refine Finset.sum_congr rfl fun p _ => Finset.sum_congr rfl fun q _ => ?_
  rcases lt_trichotomy p q with h | h | h
  · simp [h, h.not_gt]
  · subst h; simp [h0]
  · simp [h, h.not_gt]

/-- All ordered pairs: the squared distances add up to twice `n` times the sum of squares less the square of the sums. -/
theorem sum_dist2 {n d : ℕ} (x : Fin n → Fin d → ℝ) :
    ∑ p, ∑ q, dist2 (x p) (x q) = 2 * (n * ∑ p, ∑ k, x p k * x p k - ∑ k, (∑ p, x p k) * (∑ p, x p k)) := by
  have hcross : ∑ p, ∑ q, ∑ k, x p k * x q k = ∑ k, (∑ p, x p k) * (∑ p, x p k) := by
    simp only [Finset.sum_mul_sum]
    rw [Finset.sum_comm' (t' := Finset.univ) (s' := fun _ => Finset.univ) (by simp)]
    rw [Finset.sum_congr rfl fun q _ => Finset.sum_comm]
    rw [Finset.sum_comm]
    exact Finset.sum_congr rfl fun k _ => Finset.sum_comm
  simp only [dist2_eq, Finset.sum_sub_distrib, Finset.sum_add_distrib, Finset.sum_const, ← Finset.mul_sum, hcross,
    Finset.card_univ, Fintype.card_fin, nsmul_eq_mul]
  ring

/-- The pairs `p < q` alone: half of that. -/
theorem sum_upper_dist2 {n d : ℕ} (x : Fin n → Fin d → ℝ) :
    ∑ p, ∑ q, (if p < q then dist2 (x p) (x q) else 0)
      = n * ∑ p, ∑ k, x p k * x p k - ∑ k, (∑ p, x p k) * (∑ p, x p k) := by
  have h := two_mul_upper (fun p q => dist2 (x p) (x q)) (fun p q => dist2_comm _ _) (fun p => dist2_self _)
  rw [sum_dist2] at h
  linarith

/-- Two arrays of `n` rows, one above the other. -/
def stack {n d : ℕ} (a b : Fin n → Fin d → ℝ) (p : Fin (n + n)) : Fin d → ℝ :=
  if h : p.val < n then a ⟨p.val, h⟩ else b ⟨p.val - n, by omega⟩

/-- The sum of the losses of all pairs `p < q` of the stacked rows: the squared distance where both rows are of one
    array, the hinge where they are not. -/
def total {n d : ℕ} (a b : Fin n → Fin d → ℝ) : ℝ :=
  ∑ p : Fin (n + n), ∑ q : Fin (n + n),
    if p.val < q.val then
      (if (p.val < n ↔ q.val < n) then dist2 (stack a b p) (stack a b q) else hinge (stack a b p) (stack a b q))
    else 0

/-- The pairs fall into those of the first array, those of the second, and every row of the first with every row of
    the second. -/
theorem total_split {n d : ℕ} (a b : Fin n → Fin d → ℝ) :
    total a b = ∑ p, ∑ q, (if p < q then dist2 (a p) (a q) else 0) + ∑ p, ∑ q, (if p < q then dist2 (b p) (b q) else 0)
      + ∑ p, ∑ q, hinge (a p) (b q) := by
  have hl : ∀ p : Fin n, stack a b (Fin.castAdd n p) = a p := fun p => by simp [stack]
  have hr : ∀ p : Fin n, stack a b (Fin.natAdd n p) = b p := fun p => by simp [stack]
  have hlt : ∀ p q : Fin n, p.val < n + q.val := fun p q => by omega
  have hnl : ∀ p q : Fin n, ¬ n + q.val < p.val := fun p q => by omega
  simp only [total, Fin.sum_univ_add, hl, hr, Fin.val_castAdd, Fin.val_natAdd, Fin.is_lt, hlt, hnl, Fin.lt_def,
    Finset.sum_add_distrib, iff_true, if_true, if_false, add_lt_add_iff_left, Finset.sum_const_zero,
    Nat.not_lt.2 (Nat.le_add_right n _), iff_false, not_true_eq_false, not_false_eq_true]
  ring

/-- The sum of the losses in the form that needs no pair within one array. -/
theorem total_eq {n d : ℕ} (a b : Fin n → Fin d → ℝ) :
    total a b
      = n * ∑ p, ∑ k, a p k * a p k - ∑ k, (∑ p, a p k) * (∑ p, a p k) + n * ∑ p, ∑ k, b p k * b p k
        - ∑ k, (∑ p, b p k) * (∑ p, b p k) + ∑ p, ∑ q, hinge (a p) (b q) := by
  rw [total_split, sum_upper_dist2, sum_upper_dist2]
  ring

end Cert.Pairs

end
-- ==== Proof.Consts.lean ====
/- The float operations at real operands: each constant the two programs print, the square root, the quotient and the
   larger of two numbers, read over the extended reals. -/
module

public import Idealize.ShloMosaic.PureOps.Ideal.Laws
public import Idealize.ShloMosaic.Lib.IdealHost

@[expose] public section

noncomputable section

open Idealize.ShloMosaic

namespace Cert.Consts

/-- The f32 pattern of 512 is the real 512. -/
theorem ofBits_512 : Ideal.ofBits .f32 0x44000000#32 = ((512 : ℝ) : EReal) := by
  simp [Ideal.ofBits, Ideal.ieee, -EReal.coe_mul]; norm_num

/-- The f32 pattern of 2 is the real 2. -/
theorem ofBits_two : Ideal.ofBits .f32 0x40000000#32 = ((2 : ℝ) : EReal) := by
  simp [Ideal.ofBits, Ideal.ieee, -EReal.coe_mul]; norm_num

/-- The f32 pattern of the number of pairs is the real 523776. -/
theorem ofBits_pairs : Ideal.ofBits .f32 0x48FFC000#32 = ((523776 : ℝ) : EReal) := by
  simp [Ideal.ofBits, Ideal.ieee, -EReal.coe_mul]; norm_num

/-- The f32 pattern of infinity is the top of the extended reals. -/
theorem ofBits_top : Ideal.ofBits .f32 0x7F800000#32 = ⊤ := by
  simp [Ideal.ofBits, Ideal.ieee]

/-- The square root of a real that is not negative is the real square root. -/
theorem sqrt_coe (r : ℝ) (h : 0 ≤ r) : Ideal.sqrt (r : EReal) = ((√r : ℝ) : EReal) := by
  show (if r < 0 then (⊥ : EReal) else ((√r : ℝ) : EReal)) = _
  rw [if_neg h.not_gt]

/-- The larger of two reals, taken over the extended reals. -/
theorem max_coe (r s : ℝ) : max (r : EReal) (s : EReal) = ((max r s : ℝ) : EReal) :=
  (EReal.coe_strictMono.monotone.map_max).symm

/-- A quotient of two reals by a divisor other than zero. -/
theorem div_coe (r s : ℝ) (h : s ≠ 0) : Ideal.div (r : EReal) (s : EReal) = ((r / s : ℝ) : EReal) := by
  rw [Ideal.div, if_neg (by exact_mod_cast h), ← EReal.coe_inv, ← EReal.coe_mul, div_eq_mul_inv]

/-- An extended real whose absolute value is below the top is a real. -/
theorem exists_real (x : EReal) (h : max x (-x) < ⊤) : ∃ r : ℝ, x = (r : EReal) := by
  induction x with
  | bot => simp at h
  | top => simp at h
  | coe r => exact ⟨r, rfl⟩

end Cert.Consts

end
-- ==== Proof.KernelValue.lean ====
/- What the kernel's body computes from two arrays of real numbers: the sum of the pair losses over the number of pairs. -/
module

public import proofs.«01_k».proof.Proof.Gen.KernelIdeal.Frame
public import proofs.«01_k».proof.Proof.Pairs
public import proofs.«01_k».proof.Proof.Consts
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen Cert.Pairs Cert.Consts

variable (x0 x1 : FVec Ideal S512x64 .f32) (a b : Fin 512 → Fin 64 → ℝ)

/-- The losses of the pairs within one array, summed by the formula in sums and sums of squares. -/
theorem within (h0 : ∀ p k, x0 (ix2 p k) = ((a p k : ℝ) : EReal)) (h1 : ∀ p k, x1 (ix2 p k) = ((b p k : ℝ) : EReal)) :
    k0_pay4 (F := Ideal) x0 x1
      = ((512 * ∑ p, ∑ k, a p k * a p k - ∑ k, (∑ p, a p k) * (∑ p, a p k) + 512 * ∑ p, ∑ k, b p k * b p k
          - ∑ k, (∑ p, b p k) * (∑ p, b p k) : ℝ) : EReal) := by
  pointwise [k0_pay4, k0_pay2, k0_pay3]
  simp only [h0, h1, ofBits_512, ← EReal.coe_mul, ← coe_sum, ← EReal.coe_sub, ← EReal.coe_add]

/-- The distance of row `p` of the first array and row `q` of the second. -/
theorem across (h0 : ∀ p k, x0 (ix2 p k) = ((a p k : ℝ) : EReal)) (h1 : ∀ p k, x1 (ix2 p k) = ((b p k : ℝ) : EReal))
    (p q : Fin 512) : k0_pay5 (F := Ideal) x0 x1 (ix2 p q) = ((√(dist2 (a p) (b q)) : ℝ) : EReal) := by
  pointwise [k0_pay5, k0_pay2, k0_pay3]
  simp only [h0, h1, ofBits_two, ← EReal.coe_mul, ← coe_sum, ← EReal.coe_sub, ← EReal.coe_add, ← dist2_eq]
  rw [← EReal.coe_zero, max_coe, max_eq_left (dist2_nonneg _ _), sqrt_coe _ (dist2_nonneg _ _)]

/-- What the body stores: the summed losses of all pairs over their number. -/
theorem stored (h0 : ∀ p k, x0 (ix2 p k) = ((a p k : ℝ) : EReal)) (h1 : ∀ p k, x1 (ix2 p k) = ((b p k : ℝ) : EReal))
    (j : S1x1.Idx) :
    k0_pay1 (F := Ideal) (k0_pay4 x0 x1) (k0_pay5 x0 x1) j = ((total a b / 523776 : ℝ) : EReal) := by
  pointwise [k0_pay1]
  simp only [across x0 x1 a b h0 h1, within x0 x1 a b h0 h1]
  simp only [← EReal.coe_one, ← EReal.coe_zero, max_coe, ofBits_pairs, ← EReal.coe_mul, ← coe_sum, ← EReal.coe_sub,
    ← EReal.coe_add]
  rw [div_coe _ _ (by norm_num), total_eq]
  simp only [hinge, sq, Nat.cast_ofNat]

end Cert.KernelIdeal.Value

end
-- ==== Proof.KernelRun.lean ====
/- The kernel's run: the array its body stores, and the result that the reshape behind it returns. -/
module

public import proofs.«01_k».proof.Proof.KernelValue

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Pairs Cert.Consts

variable (m : (ℓ : Loc nD τ sig) → Buf (Elt Ideal) ℓ) (g : Dev nD → PrngReg)

/-- The kernel's one-element array after the run: what the body stores, computed from the two argument arrays. -/
theorem final (c : Dev nD) : (dats m 0 c).arrAt 2 (cfgs 0).N
    = k0_pay1 (F := Ideal)
        (k0_pay4 (m ((c.tc : Thread nD τ).loc main_arg0)) (m ((c.tc : Thread nD τ).loc main_arg1)))
        (k0_pay5 (m ((c.tc : Thread nD τ).loc main_arg0)) (m ((c.tc : Thread nD τ).loc main_arg1))) := by
  have i0 : ∀ t : Fin cfg0.N, win0_0.index t = ![0, 0] ∧ win0_1.index t = ![0, 0] :=
    (by decide +kernel : ∀ t : Fin grid0.N, _)
  refine (dats m 0 c).arrAt_eq_of_after_last 2 t0_0 (by decide +kernel) _ fun j => ?_
  blk_simp
  rw [after0_2]
  frame_out
  blk_point [iblk, V, i0 t0_0]

/-- The result after the run: the stored array, reshaped to a single number. -/
theorem result (c : Dev nD) :
    Pipeline.afterTail₀ cfgs (dats m) 0 (V0 m) [hostOps1] c main_v1
      = shapeCast S_ ((dats m 0 c).arrAt 2 (cfgs 0).N) shapeCasts_S1x1_S_ := by
  unfold Pipeline.afterTail₀
  simp only [List.flatten_cons, List.flatten_nil, List.append_nil]
  after_results
  exact congrArg (fun A => shapeCast S_ A shapeCasts_S1x1_S_)
    (Pipeline.withArrays_arr spec0 launch0.win.arr_inj c (V0 m c) (fun w => (dats m 0 c).arrAt w (cfgs 0).N) 2)

/-- At every final state of the kernel's run the result is the number its body stored, and the arguments are unchanged. -/
theorem run : θ_run defs (onTc (τ := τ) (main (F := Ideal))) ⟨m, fun _ => 0, g⟩ fun r => ∀ c : Dev nD,
    r.2.mem ((c.tc : Thread nD τ).loc main_v1)
        = shapeCast S_ (k0_pay1 (F := Ideal)
            (k0_pay4 (m ((c.tc : Thread nD τ).loc main_arg0)) (m ((c.tc : Thread nD τ).loc main_arg1)))
            (k0_pay5 (m ((c.tc : Thread nD τ).loc main_arg0)) (m ((c.tc : Thread nD τ).loc main_arg1)))) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, h.2 c⟩) (θ_run_and (run_main m g) (unchanged m g))
  rw [(h.1 c).2 main_v1 (Pipeline.mem_restRefs_of _ rfl (by decide)), result m c, final m c]

/-- The number stored for two arrays of real numbers, as the program returns it. -/
theorem returned (x0 x1 : FVec Ideal S512x64 .f32) (a b : Fin 512 → Fin 64 → ℝ)
    (h0 : ∀ p k, x0 (ix2 p k) = ((a p k : ℝ) : EReal)) (h1 : ∀ p k, x1 (ix2 p k) = ((b p k : ℝ) : EReal)) (j : S_.Idx) :
    shapeCast S_ (k0_pay1 (F := Ideal) (k0_pay4 x0 x1) (k0_pay5 x0 x1)) shapeCasts_S1x1_S_ j
      = ((total a b / 523776 : ℝ) : EReal) :=
  stored x0 x1 a b h0 h1 _

end Cert.KernelIdeal.Value

end
-- ==== Proof.RefValue.lean ====
/- What the reference computes from two arrays of real numbers: the sum of the pair losses over the number of pairs. -/
module

public import proofs.«01_k».proof.Proof.Gen.ReferenceIdeal.Run
public import proofs.«01_k».proof.Proof.Pairs
public import proofs.«01_k».proof.Proof.Consts
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Pairs Cert.Consts

variable (x0 x1 : FVec Ideal S512x64 .f32) (a b : Fin 512 → Fin 64 → ℝ)

/-- The two arrays, one above the other. -/
def rows : FVec Ideal S1024x64 .f32 :=
  concatenate S1024x64 0 [⟨S512x64, x0⟩, ⟨S512x64, x1⟩] concatenates_S512x64_S512x64_S1024x64_d0

/-- The difference of rows `p` and `q`, for every `p` and `q`. -/
def diffs : FVec Ideal S1024x1024x64 .f32 :=
  subf
    (broadcastInDim S1024x1024x64 ![0, 1, 2] bcast_S1024x1x64_S1024x1024x64_0_1_2
      (broadcastInDim S1024x1x64 ![0, 2] bcast_S1024x64_S1024x1x64_0_2 (rows x0 x1)))
    (broadcastInDim S1024x1024x64 ![0, 1, 2] bcast_S1x1024x64_S1024x1024x64_0_1_2
      (broadcastInDim S1x1024x64 ![1, 2] bcast_S1024x64_S1x1024x64_1_2 (rows x0 x1)))

/-- The squared distance of rows `p` and `q`, for every `p` and `q`. -/
def dists : FVec Ideal S1024x1024 .f32 :=
  Host.reduceAdd (mulf (diffs x0 x1) (diffs x0 x1)) (constant S_ .f32 0x00000000#32)
    reducesTo_S1024x1024x64_S1024x1024_d2 h_S_

/-- What the distance falls short of the margin, or zero. -/
def short : FVec Ideal S1024x1024 .f32 :=
  maximumf
    (subf (broadcastInDim S1024x1024 ![] bcast_S_S1024x1024 (constant S_ .f32 0x3F800000#32)) (Host.sqrt (dists x0 x1)))
    (broadcastInDim S1024x1024 ![] bcast_S_S1024x1024 (constant S_ .f32 0x00000000#32))

/-- The loss of each pair `p < q`, and zero elsewhere. -/
def losses : FVec Ideal S1024x1024 .f32 :=
  select (cmpi .slt (iotaInDim S1024x1024 32 0) (iotaInDim S1024x1024 32 1))
    (select
      (cmpi .eq
        (cmpi .slt (iotaInDim S1024x1024 32 0) (broadcastInDim S1024x1024 ![] bcast_S_S1024x1024 (constantI S_ 32 512#32)))
        (cmpi .slt (iotaInDim S1024x1024 32 1) (broadcastInDim S1024x1024 ![] bcast_S_S1024x1024 (constantI S_ 32 512#32))))
      (dists x0 x1) (mulf (short x0 x1) (short x0 x1)))
    (broadcastInDim S1024x1024 ![] bcast_S_S1024x1024 (id (constant S_ .f32 0x00000000#32)))

/-- The mean of the losses. -/
def mean : FVec Ideal S_ .f32 :=
  Host.divf (Host.reduceAdd (losses x0 x1) (constant S_ .f32 0x00000000#32) reducesTo_S1024x1024_S_d0_1 h_S_)
    (constant S_ .f32 0x48FFC000#32)

/-- The reference's result is the mean of the losses of its two arguments. -/
theorem res_eq_mean (m : (ℓ : Loc nD τ sig) → Buf (Elt Ideal) ℓ) (c : Dev nD) :
    res_main_v24 m c = mean (m ((c.tc : Thread nD τ).loc main_arg0)) (m ((c.tc : Thread nD τ).loc main_arg1)) := rfl

/-- Row `p` of the stacked arrays. -/
theorem rows_apply (h0 : ∀ p k, x0 (ix2 p k) = ((a p k : ℝ) : EReal)) (h1 : ∀ p k, x1 (ix2 p k) = ((b p k : ℝ) : EReal))
    (p : Fin 1024) (k : Fin 64) : rows x0 x1 (ix2 p k) = ((stack (n := 512) a b p k : ℝ) : EReal) := by
  pointwise [rows]
  simp only [stack, h0, h1]
  split <;> rfl

/-- The squared distance of rows `p` and `q` of the stacked arrays. -/
theorem dists_apply (h0 : ∀ p k, x0 (ix2 p k) = ((a p k : ℝ) : EReal)) (h1 : ∀ p k, x1 (ix2 p k) = ((b p k : ℝ) : EReal))
    (p q : Fin 1024) : dists x0 x1 (ix2 p q) = ((dist2 (stack (n := 512) a b p) (stack (n := 512) a b q) : ℝ) : EReal) := by
  pointwise [dists, diffs]
  simp only [rows_apply x0 x1 a b h0 h1, ← EReal.coe_mul, ← coe_sum, ← EReal.coe_sub]
  simp only [dist2, sq]

/-- What the distance of rows `p` and `q` falls short of the margin. -/
theorem short_apply (h0 : ∀ p k, x0 (ix2 p k) = ((a p k : ℝ) : EReal)) (h1 : ∀ p k, x1 (ix2 p k) = ((b p k : ℝ) : EReal))
    (p q : Fin 1024) : short x0 x1 (ix2 p q)
      = ((max (1 - √(dist2 (stack (n := 512) a b p) (stack (n := 512) a b q))) 0 : ℝ) : EReal) := by
  pointwise [short]
  rw [dists_apply x0 x1 a b h0 h1, sqrt_coe _ (dist2_nonneg _ _), ← EReal.coe_one, ← EReal.coe_zero, ← EReal.coe_sub, max_coe]

/-- The comparison of two row numbers, as the words the program compares. -/
theorem less (p q : ℕ) (hp : p < 1024) (hq : q < 1024) :
    IntOp.cmpi .slt (BitVec.ofNat 32 p) (BitVec.ofNat 32 q) = BitVec.ofBool (decide (p < q)) :=
  WordCmp.cmpi_slt_ofNat (by omega) (by omega)

/-- Two truth values are equal, as the one-bit words the program compares. -/
theorem same (P Q : Prop) [Decidable P] [Decidable Q] :
    IntOp.cmpi .eq (BitVec.ofBool (decide P)) (BitVec.ofBool (decide Q)) = BitVec.ofBool (decide (P ↔ Q)) := by
  by_cases hP : P <;> by_cases hQ : Q <;> simp [hP, hQ, IntOp.cmpi]

/-- A selection by the word of a truth value. -/
theorem pick {α : Type} (P : Prop) [Decidable P] (x y : α) :
    Scalar.select (BitVec.ofBool (decide P)) x y = if P then x else y := by
  by_cases hP : P <;> simp [hP, Scalar.select]

/-- The loss of the rows `p` and `q`. -/
theorem losses_apply (h0 : ∀ p k, x0 (ix2 p k) = ((a p k : ℝ) : EReal)) (h1 : ∀ p k, x1 (ix2 p k) = ((b p k : ℝ) : EReal))
    (p q : Fin 1024) : losses x0 x1 (ix2 p q)
      = (((if p.val < q.val then
            (if (p.val < 512 ↔ q.val < 512) then dist2 (stack (n := 512) a b p) (stack (n := 512) a b q)
              else hinge (stack (n := 512) a b p) (stack (n := 512) a b q))
          else 0 : ℝ)) : EReal) := by
  have hz : (id (constant (F := Ideal) S_ .f32 0x00000000#32)) ix0 = (0 : EReal) := Ideal.ofBits_zero_f32
  pointwise [losses]
  rw [hz, less _ _ p.isLt q.isLt, less p.val 512 p.isLt (by norm_num), less q.val 512 q.isLt (by norm_num), same, pick, pick,
    dists_apply x0 x1 a b h0 h1, short_apply x0 x1 a b h0 h1, ← EReal.coe_mul, ← sq]
  split_ifs <;> rfl

/-- The mean of the losses of two arrays of real numbers. -/
theorem mean_apply (h0 : ∀ p k, x0 (ix2 p k) = ((a p k : ℝ) : EReal)) (h1 : ∀ p k, x1 (ix2 p k) = ((b p k : ℝ) : EReal))
    (j : S_.Idx) : mean x0 x1 j = ((total a b / 523776 : ℝ) : EReal) := by
  pointwise [mean]
  simp only [losses_apply x0 x1 a b h0 h1, ← coe_sum, ofBits_pairs]
  rw [div_coe _ _ (by norm_num)]
  rfl

end Cert.ReferenceIdeal.Value

end
-- ==== Proof.Finite.lean ====
/- The precondition read back: arrays that pass it hold real numbers only. -/
module

public import proofs.«01_k».proof.Proof.Gen.Pre_finite
public import proofs.«01_k».proof.Proof.Consts
public import Idealize.ShloMosaic.Lib.ReduceAll
public import Idealize.ShloMosaic.Lib.Pipeline.ValueKit

@[expose] public section

set_option maxRecDepth 16384

noncomputable section

open Idealize.ShloMosaic Idealize.ShloMosaic.TcCoe Idealize.SL.Sem

namespace Cert.Pre_finite.Value

open Cert.Pre_finite Cert.Pre_finite.Gen Cert.Consts

/-- A comparison of an absolute value with infinity that came out true says that the number is real. -/
theorem real_of_less (x : Ideal .f32)
    (h : FloatOps.cmpf .olt (FloatOps.absf x) (Ideal.ofBits .f32 0x7F800000#32) = 1#1) : ∃ r : ℝ, x = (r : EReal) := by
  rw [ofBits_top] at h
  by_cases hx : max x (-x) < ⊤
  · exact exists_real x hx
  · exfalso
    have h' : BitVec.ofBool (decide (max x (-x) < (⊤ : EReal))) = 1#1 := h
    simp only [hx, decide_false] at h'
    exact absurd h' (by decide)

/-- Two arrays that pass the precondition hold real numbers. -/
theorem reals (x0 x1 : FVec Ideal S512x64 .f32) (h : fn (F := Ideal) x0 x1 = fun _ => 1#1) :
    (∀ i, ∃ r : ℝ, x0 i = (r : EReal)) ∧ ∀ i, ∃ r : ℝ, x1 i = (r : EReal) := by
  have hj := congrFun h ix0
  unfold fn at hj
  haveI : Subsingleton S_.Idx := ⟨fun _ _ => funext fun d => d.elim0⟩
  obtain ⟨h0, h1⟩ := IntOp.andi_eq_one.1 hj
  exact ⟨fun i => real_of_less _ (Host.reduce_andi_all _ _ _ _ _ h0 i),
    fun i => real_of_less _ (Host.reduce_andi_all _ _ _ _ _ h1 i)⟩

end Cert.Pre_finite.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.KernelRun
public import proofs.«01_k».proof.Proof.RefValue
public import proofs.«01_k».proof.Proof.Finite
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments unchanged and ends with every semaphore counter at zero. -/
theorem quiescent_reference : Cert.quiescent_ReferenceIdeal (hReferenceIdeal := Cert.ReferenceIdeal.Gen.facts) := by
  intro m g _
  exact (θ_run _ _ _).mono (fun r h => ⟨fun c => (h c).2, sem_eq_zero_of_no_sems rfl r.2⟩)
    (Cert.ReferenceIdeal.Value.run (F := Ideal) m g)

/-- For two arrays of finite numbers the kernel's body and the reference compute the same number. -/
theorem same_value (x0 x1 : FVec Ideal Cert.KernelIdeal.S512x64 .f32)
    (h : Cert.Pre_finite.fn (F := Ideal) x0 x1 = fun _ => 1#1) :
    Cert.ReferenceIdeal.Value.mean x0 x1
      = shapeCast Cert.KernelIdeal.S_
          (Cert.KernelIdeal.Gen.k0_pay1 (F := Ideal) (Cert.KernelIdeal.Gen.k0_pay4 x0 x1) (Cert.KernelIdeal.Gen.k0_pay5 x0 x1))
          Cert.KernelIdeal.Gen.shapeCasts_S1x1_S_ := by
  obtain ⟨h0, h1⟩ := Cert.Pre_finite.Value.reals x0 x1 h
  choose a ha using h0
  choose b hb using h1
  funext j
  rw [Cert.ReferenceIdeal.Value.mean_apply x0 x1 (fun p k => a (ix2 p k)) (fun p k => b (ix2 p k)) (fun _ _ => ha _)
    (fun _ _ => hb _)]
  exact (Cert.KernelIdeal.Value.returned x0 x1 (fun p k => a (ix2 p k)) (fun p k => b (ix2 p k)) (fun _ _ => ha _)
    (fun _ _ => hb _) j).symm

/-- The kernel and the reference, run on the same finite arguments, end with the same result. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨_, Cert.KernelIdeal.Value.run m g, ?_⟩
  refine (θ_run _ _ _).mono (fun r h c => ⟨?_, (h c).2⟩) (Cert.ReferenceIdeal.Value.run (F := Ideal) m' g')
  rw [(h c).1, Cert.ReferenceIdeal.Value.res_eq_mean, (hagree c).1, (hagree c).2]
  exact same_value _ _ (hpre c)

/-- Everything that is claimed of the kernel and its reference. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g,
    fun m g _ => Cert.KernelIdeal.Gen.frame m g,
    fun m g _ => Cert.KernelIdeal.Gen.frame m g,
    quiescent_reference,
    fun m g _ => quiescent_reference m g trivial,
    trivial,
    algebraic⟩

end Cert.Proof

end
